-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "least_square" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x1024 : Shape := ⟨3, ![8, 32, 1024]⟩
abbrev S8x64x256 : Shape := ⟨3, ![8, 64, 256]⟩
abbrev S256x1024 : Shape := ⟨2, ![256, 1024]⟩
abbrev S256 : Shape := ⟨1, ![256]⟩
abbrev S256x512 : Shape := ⟨2, ![256, 512]⟩
abbrev S32x8x1024 : Shape := ⟨3, ![32, 8, 1024]⟩
abbrev S512x256 : Shape := ⟨2, ![512, 256]⟩
abbrev S1024x256 : Shape := ⟨2, ![1024, 256]⟩
abbrev S256x256 : Shape := ⟨2, ![256, 256]⟩
abbrev S512 : Shape := ⟨1, ![512]⟩
abbrev S1x512 : Shape := ⟨2, ![1, 512]⟩
abbrev S1x256 : Shape := ⟨2, ![1, 256]⟩
abbrev S8x64 : Shape := ⟨2, ![8, 64]⟩
abbrev S8x256 : Shape := ⟨2, ![8, 256]⟩
abbrev S8x512 : Shape := ⟨2, ![8, 512]⟩
abbrev S8x1x256 : Shape := ⟨3, ![8, 1, 256]⟩
abbrev S8 : Shape := ⟨1, ![8]⟩
abbrev S8x1 : Shape := ⟨2, ![8, 1]⟩
abbrev S8x64x1 : Shape := ⟨3, ![8, 64, 1]⟩

abbrev nBuf : Space → Nat
  | .hbm => 44
  | .vmem => 16
  | .smem => 0
  | _ => 0

abbrev bufTy : (tb : Table) → Fin (tcTables nBuf tb) → BufTy
  | .hbm, ⟨0, _⟩ => ⟨S8x32x1024, .f32⟩
  | .hbm, ⟨1, _⟩ => ⟨S8x64x256, .f32⟩
  | .hbm, ⟨2, _⟩ => ⟨S256x1024, .f32⟩
  | .hbm, ⟨3, _⟩ => ⟨S256, .f32⟩
  | .hbm, ⟨4, _⟩ => ⟨S256x1024, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S32x8x1024, .f32⟩
  | .hbm, ⟨13, _⟩ => ⟨S256x1024, .f32⟩
  | .hbm, ⟨14, _⟩ => ⟨S256x1024, .bf16⟩
  | .hbm, ⟨15, _⟩ => ⟨S512x256, .f32⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x512, .f32⟩
  | .hbm, ⟨25, _⟩ => ⟨S256x512, .bf16⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x512, .f32⟩
  | .hbm, ⟨31, _⟩ => ⟨S256x512, .bf16⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .f32⟩
  | .hbm, ⟨37, _⟩ => ⟨S256x256, .bf16⟩
  | .hbm, ⟨38, _⟩ => ⟨S512, .f32⟩
  | .hbm, ⟨39, _⟩ => ⟨S1x512, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S512x256, .f32⟩
  | .local _ .vmem, ⟨0, _⟩ => ⟨S256x1024, .bf16⟩
  | .local _ .vmem, ⟨1, _⟩ => ⟨S512x256, .f32⟩
  | .local _ .vmem, ⟨2, _⟩ => ⟨S1024x256, .bf16⟩
  | .local _ .vmem, ⟨3, _⟩ => ⟨S1024x256, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S1x512, .f32⟩
  | .local _ .vmem, ⟨11, _⟩ => ⟨S1x256, .f32⟩
  | .local _ .vmem, ⟨12, _⟩ => ⟨S512x256, .f32⟩
  | .local _ .vmem, ⟨13, _⟩ => ⟨S256x256, .f32⟩
  | .local _ .vmem, ⟨14, _⟩ => ⟨S256x512, .f32⟩
  | .local _ .vmem, ⟨15, _⟩ => ⟨S256x256, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_v0 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

def k0_off1 (c0_i32 : BitVec 32) : Fin 2 → Nat :=
  let c8_i32 : BitVec 32 := 8#32
  let v50 : BitVec 32 := Scalar.muli c0_i32 c8_i32
  let v51 : Index := Scalar.indexCast v50
  let c0_36 : Index := 0#32
  ![v51.toNat, 0]
def k0_off2 (c0_i32 : BitVec 32) : Fin 2 → Nat :=
  let c8_i32_37 : BitVec 32 := 8#32
  let v53 : BitVec 32 := Scalar.muli c0_i32 c8_i32_37
  let v54 : Index := Scalar.indexCast v53
  let c0_38 : Index := 0#32
  ![v54.toNat, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelIdeal.lean ====
variable {F : FTy → Type} [FloatOps F] [Named F]
def κ : String → Option EReal := fun
  | "least_square" => some ((5316911940649 / 5316911983139663491615228241121378304 : ℝ) : EReal)
  | _ => none
-- ==== ReferenceIdeal.lean ====
abbrev S8x32x1024 : Shape := ⟨3, ![8, 32, 1024]⟩
abbrev S8x64x256 : Shape := ⟨3, ![8, 64, 256]⟩
abbrev S256x1024 : Shape := ⟨2, ![256, 1024]⟩
abbrev S256 : Shape := ⟨1, ![256]⟩
abbrev S256x512 : Shape := ⟨2, ![256, 512]⟩
abbrev S_ : Shape := ⟨0, ![]⟩
abbrev S8x64 : Shape := ⟨2, ![8, 64]⟩
abbrev S8x1x1024 : Shape := ⟨3, ![8, 1, 1024]⟩
abbrev S8x1024 : Shape := ⟨2, ![8, 1024]⟩
abbrev S1024x256 : Shape := ⟨2, ![1024, 256]⟩
abbrev S8x256 : Shape := ⟨2, ![8, 256]⟩
abbrev S1x256 : Shape := ⟨2, ![1, 256]⟩
abbrev S8 : Shape := ⟨1, ![8]⟩
abbrev S8x1 : Shape := ⟨2, ![8, 1]⟩
abbrev S8x1x256 : Shape := ⟨3, ![8, 1, 256]⟩
abbrev S8x64x512 : Shape := ⟨3, ![8, 64, 512]⟩
abbrev S512x256 : Shape := ⟨2, ![512, 256]⟩
abbrev S1x1x256 : Shape := ⟨3, ![1, 1, 256]⟩
abbrev S8x64x1 : Shape := ⟨3, ![8, 64, 1]⟩

abbrev nBuf : Space → Nat
  | .hbm => 165
  | .vmem => 0
  | .smem => 0
  | _ => 0

abbrev hbmTy0_0 (i : Nat) : BufTy := match i % 128 with
  | 0 => ⟨S8x32x1024, .f32⟩
  | 1 => ⟨S8x64x256, .f32⟩
  | 2 => ⟨S256x1024, .f32⟩
  | 3 => ⟨S256, .f32⟩
  | 4 => ⟨S256x1024, .f32⟩
  | 5 => ⟨S256, .f32⟩
  | 6 => ⟨S256x512, .f32⟩
  | 7 => ⟨S256, .f32⟩
  | 8 => ⟨S256x512, .f32⟩
  | 9 => ⟨S256, .f32⟩
  | 10 => ⟨S256x512, .f32⟩
  | 11 => ⟨S256, .f32⟩
  | 12 => ⟨S_, .f32⟩
  | 13 => ⟨S8x64, .f32⟩
  | 14 => ⟨S_, .f32⟩
  | 15 => ⟨S8x64, .f32⟩
  | 16 => ⟨S_, .i32⟩
  | 17 => ⟨S_, .i32⟩
  | 18 => ⟨S8x32x1024, .f32⟩
  | 19 => ⟨S256x1024, .f32⟩
  | 20 => ⟨S256, .f32⟩
  | 21 => ⟨S256x1024, .f32⟩
  | 22 => ⟨S256, .f32⟩
  | 23 => ⟨S256x512, .f32⟩
  | 24 => ⟨S256, .f32⟩
  | 25 => ⟨S256x512, .f32⟩
  | 26 => ⟨S256, .f32⟩
  | 27 => ⟨S256x512, .f32⟩
  | 28 => ⟨S256, .f32⟩
  | 29 => ⟨S_, .i32⟩
  | 30 => ⟨S_, .i32⟩
  | 31 => ⟨S8x64x256, .f32⟩
  | 32 => ⟨S8x64, .f32⟩
  | 33 => ⟨S8x64, .f32⟩
  | 34 => ⟨S_, .i32⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S8x1x1024, .f32⟩
  | 47 => ⟨S8x1024, .f32⟩
  | 48 => ⟨S1024x256, .f32⟩
  | 49 => ⟨S8x256, .f32⟩
  | 50 => ⟨S1x256, .f32⟩
  | 51 => ⟨S8x256, .f32⟩
  | 52 => ⟨S8x256, .f32⟩
  | 53 => ⟨S8x64, .f32⟩
  | 54 => ⟨S_, .f32⟩
  | 55 => ⟨S8x64, .f32⟩
  | 56 => ⟨S8x64, .f32⟩
  | 57 => ⟨S8x64, .f32⟩
  | 58 => ⟨S_, .f32⟩
  | 59 => ⟨S8x64, .f32⟩
  | 60 => ⟨S8x64, .f32⟩
  | 61 => ⟨S8x64, .f32⟩
  | 62 => ⟨S1024x256, .f32⟩
  | 63 => ⟨S8x256, .f32⟩
  | 64 => ⟨S1x256, .f32⟩
  | 65 => ⟨S8x256, .f32⟩
  | 66 => ⟨S8x256, .f32⟩
  | 67 => ⟨S8x64, .f32⟩
  | 68 => ⟨S_, .f32⟩
  | 69 => ⟨S8, .f32⟩
  | 70 => ⟨S_, .f32⟩
  | 71 => ⟨S8, .f32⟩
  | 72 => ⟨S8, .f32⟩
  | 73 => ⟨S8x1, .f32⟩
  | 74 => ⟨S8x64, .f32⟩
  | 75 => ⟨S8x64, .f32⟩
  | 76 => ⟨S8x64, .f32⟩
  | 77 => ⟨S_, .f32⟩
  | 78 => ⟨S8, .f32⟩
  | 79 => ⟨S8x1, .f32⟩
  | 80 => ⟨S8x64, .f32⟩
  | 81 => ⟨S8x64, .f32⟩
  | 82 => ⟨S_, .f32⟩
  | 83 => ⟨S8x64, .f32⟩
  | 84 => ⟨S8x64, .i1⟩
  | 85 => ⟨S8x64, .f32⟩
  | 86 => ⟨S8x64, .f32⟩
  | 87 => ⟨S8x1x256, .f32⟩
  | 88 => ⟨S8x64x256, .f32⟩
  | 89 => ⟨S8x64x512, .f32⟩
  | 90 => ⟨S512x256, .f32⟩
  | 91 => ⟨S8x64x256, .f32⟩
  | 92 => ⟨S1x1x256, .f32⟩
  | 93 => ⟨S8x64x256, .f32⟩
  | 94 => ⟨S8x64x256, .f32⟩
  | 95 => ⟨S8x64x256, .f32⟩
  | 96 => ⟨S8x64x256, .f32⟩
  | 97 => ⟨S_, .f32⟩
  | 98 => ⟨S8x64x256, .f32⟩
  | 99 => ⟨S8x64x256, .f32⟩
  | 100 => ⟨S_, .f32⟩
  | 101 => ⟨S8x64x256, .f32⟩
  | 102 => ⟨S8x64x256, .f32⟩
  | 103 => ⟨S512x256, .f32⟩
  | 104 => ⟨S8x64x256, .f32⟩
  | 105 => ⟨S1x1x256, .f32⟩
  | 106 => ⟨S8x64x256, .f32⟩
  | 107 => ⟨S8x64x256, .f32⟩
  | 108 => ⟨S8x64x256, .f32⟩
  | 109 => ⟨S8x64x256, .f32⟩
  | 110 => ⟨S_, .f32⟩
  | 111 => ⟨S8x64x256, .f32⟩
  | 112 => ⟨S8x64x256, .f32⟩
  | 113 => ⟨S_, .f32⟩
  | 114 => ⟨S8x64x256, .f32⟩
  | 115 => ⟨S8x64x256, .f32⟩
  | 116 => ⟨S8x64x256, .f32⟩
  | 117 => ⟨S8x64x512, .f32⟩
  | 118 => ⟨S512x256, .f32⟩
  | 119 => ⟨S8x64x256, .f32⟩
  | 120 => ⟨S1x1x256, .f32⟩
  | 121 => ⟨S8x64x256, .f32⟩
  | 122 => ⟨S8x64x256, .f32⟩
  | 123 => ⟨S8x64x256, .f32⟩
  | 124 => ⟨S_, .f32⟩
  | 125 => ⟨S8x64x256, .f32⟩
  | 126 => ⟨S8x64x256, .f32⟩
  | 127 => ⟨S8x64x256, .f32⟩
  | _ => ⟨S8x32x1024, .f32⟩

abbrev hbmTy0_1 (i : Nat) : BufTy := match i % 128 with
  | 0 => ⟨S8x64x256, .f32⟩
  | 1 => ⟨S8x64x256, .f32⟩
  | 2 => ⟨S_, .f32⟩
  | 3 => ⟨S8x64, .f32⟩
  | 4 => ⟨S8x64, .f32⟩
  | 5 => ⟨S8x64x1, .f32⟩
  | 6 => ⟨S_, .f32⟩
  | 7 => ⟨S8x64x1, .f32⟩
  | 8 => ⟨S8x64x1, .f32⟩
  | 9 => ⟨S8x64x256, .f32⟩
  | 10 => ⟨S8x64x256, .f32⟩
  | 11 => ⟨S8x64x256, .f32⟩
  | 12 => ⟨S8x64x256, .f32⟩
  | 13 => ⟨S8x64x256, .f32⟩
  | 14 => ⟨S8x64, .f32⟩
  | 15 => ⟨S8x64x256, .f32⟩
  | 16 => ⟨S_, .f32⟩
  | 17 => ⟨S8x64, .f32⟩
  | 18 => ⟨S8x64x1, .f32⟩
  | 19 => ⟨S8x64x1, .f32⟩
  | 20 => ⟨S_, .f32⟩
  | 21 => ⟨S8x64x1, .f32⟩
  | 22 => ⟨S8x64x1, .f32⟩
  | 23 => ⟨S8x64x256, .f32⟩
  | 24 => ⟨S8x64x256, .f32⟩
  | 25 => ⟨S_, .f32⟩
  | 26 => ⟨S8x64, .f32⟩
  | 27 => ⟨S8x64, .f32⟩
  | 28 => ⟨S_, .f32⟩
  | 29 => ⟨S8x64, .f32⟩
  | 30 => ⟨S8x64, .f32⟩
  | 31 => ⟨S_, .f32⟩
  | 32 => ⟨S8x64, .f32⟩
  | 33 => ⟨S8x64, .f32⟩
  | 34 => ⟨S_, .i32⟩
  | 35 => ⟨S_, .i32⟩
  | 36 => ⟨S512x256, .f32⟩
  | _ => ⟨S8x32x1024, .f32⟩

abbrev hbmTy (i : Nat) : BufTy := match i / 128 with
  | 0 => hbmTy0_0 i
  | 1 => hbmTy0_1 i
  | _ => ⟨S8x32x1024, .f32⟩

abbrev bufTy : (tb : Table) → Fin (tcTables nBuf tb) → BufTy
  | .hbm, ⟨i, _⟩ => hbmTy i
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_c : Ref sig .tc := ⟨.hbm, 16, rfl⟩
abbrev main_c_1 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev main_v2_3 : Ref sig .tc := ⟨.hbm, 21, rfl⟩
abbrev main_v2_4 : Ref sig .tc := ⟨.hbm, 22, rfl⟩
abbrev main_v2_5 : Ref sig .tc := ⟨.hbm, 23, rfl⟩
abbrev main_v2_6 : Ref sig .tc := ⟨.hbm, 24, rfl⟩
abbrev main_v2_7 : Ref sig .tc := ⟨.hbm, 25, rfl⟩
abbrev main_v2_8 : Ref sig .tc := ⟨.hbm, 26, rfl⟩
abbrev main_v2_9 : Ref sig .tc := ⟨.hbm, 27, rfl⟩
abbrev main_v2_10 : Ref sig .tc := ⟨.hbm, 28, rfl⟩
abbrev main_v2_11 : Ref sig .tc := ⟨.hbm, 29, rfl⟩
abbrev main_v2_12 : Ref sig .tc := ⟨.hbm, 30, rfl⟩
abbrev main_v2_13 : Ref sig .tc := ⟨.hbm, 31, rfl⟩
abbrev main_v2_14 : Ref sig .tc := ⟨.hbm, 32, rfl⟩
abbrev main_v2_15 : Ref sig .tc := ⟨.hbm, 33, rfl⟩
abbrev main_while0c_c_17 : Ref sig .tc := ⟨.hbm, 34, rfl⟩
abbrev main_while0c_v4 : Ref sig .tc := ⟨.hbm, 35, rfl⟩
abbrev main_while0b_c_17 : Ref sig .tc := ⟨.hbm, 36, rfl⟩
abbrev main_while0b_v4 : Ref sig .tc := ⟨.hbm, 37, rfl⟩
abbrev main_while0b_call0_c : Ref sig .tc := ⟨.hbm, 38, rfl⟩
abbrev main_while0b_call0_v0 : Ref sig .tc := ⟨.hbm, 39, rfl⟩
abbrev main_while0b_call0_v1 : Ref sig .tc := ⟨.hbm, 40, rfl⟩
abbrev main_while0b_call0_c_0 : Ref sig .tc := ⟨.hbm, 41, rfl⟩
abbrev main_while0b_call0_v2 : Ref sig .tc := ⟨.hbm, 42, rfl⟩
abbrev main_while0b_call0_v3 : Ref sig .tc := ⟨.hbm, 43, rfl⟩
abbrev main_while0b_call0_c_1 : Ref sig .tc := ⟨.hbm, 44, rfl⟩
abbrev main_while0b_call0_c_2 : Ref sig .tc := ⟨.hbm, 45, rfl⟩
abbrev main_while0b_call0_v4 : Ref sig .tc := ⟨.hbm, 46, rfl⟩
abbrev main_while0b_v5 : Ref sig .tc := ⟨.hbm, 47, rfl⟩
abbrev main_while0b_v6 : Ref sig .tc := ⟨.hbm, 48, rfl⟩
abbrev main_while0b_v7 : Ref sig .tc := ⟨.hbm, 49, rfl⟩
abbrev main_while0b_v8 : Ref sig .tc := ⟨.hbm, 50, rfl⟩
abbrev main_while0b_v9 : Ref sig .tc := ⟨.hbm, 51, rfl⟩
abbrev main_while0b_v10 : Ref sig .tc := ⟨.hbm, 52, rfl⟩
abbrev main_while0b_v11 : Ref sig .tc := ⟨.hbm, 53, rfl⟩
abbrev main_while0b_cst_18 : Ref sig .tc := ⟨.hbm, 54, rfl⟩
abbrev main_while0b_v12 : Ref sig .tc := ⟨.hbm, 55, rfl⟩
abbrev main_while0b_v13 : Ref sig .tc := ⟨.hbm, 56, rfl⟩
abbrev main_while0b_v14 : Ref sig .tc := ⟨.hbm, 57, rfl⟩
abbrev main_while0b_cst_19 : Ref sig .tc := ⟨.hbm, 58, rfl⟩
abbrev main_while0b_v15 : Ref sig .tc := ⟨.hbm, 59, rfl⟩
abbrev main_while0b_v16 : Ref sig .tc := ⟨.hbm, 60, rfl⟩
abbrev main_while0b_v17 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_v23 : Ref sig .tc := ⟨.hbm, 67, rfl⟩
abbrev main_while0b_cst_20 : Ref sig .tc := ⟨.hbm, 68, rfl⟩
abbrev main_while0b_v24 : Ref sig .tc := ⟨.hbm, 69, rfl⟩
abbrev main_while0b_cst_21 : Ref sig .tc := ⟨.hbm, 70, rfl⟩
abbrev main_while0b_v25 : Ref sig .tc := ⟨.hbm, 71, rfl⟩
abbrev main_while0b_v26 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_cst_22 : Ref sig .tc := ⟨.hbm, 77, rfl⟩
abbrev main_while0b_v31 : Ref sig .tc := ⟨.hbm, 78, rfl⟩
abbrev main_while0b_v32 : Ref sig .tc := ⟨.hbm, 79, rfl⟩
abbrev main_while0b_v33 : Ref sig .tc := ⟨.hbm, 80, rfl⟩
abbrev main_while0b_v34 : Ref sig .tc := ⟨.hbm, 81, rfl⟩
abbrev main_while0b_cst_23 : Ref sig .tc := ⟨.hbm, 82, rfl⟩
abbrev main_while0b_v35 : Ref sig .tc := ⟨.hbm, 83, rfl⟩
abbrev main_while0b_v36 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_cst_24 : Ref sig .tc := ⟨.hbm, 97, rfl⟩
abbrev main_while0b_v49 : Ref sig .tc := ⟨.hbm, 98, rfl⟩
abbrev main_while0b_v50 : Ref sig .tc := ⟨.hbm, 99, rfl⟩
abbrev main_while0b_cst_25 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_cst_26 : Ref sig .tc := ⟨.hbm, 110, rfl⟩
abbrev main_while0b_v60 : Ref sig .tc := ⟨.hbm, 111, rfl⟩
abbrev main_while0b_v61 : Ref sig .tc := ⟨.hbm, 112, rfl⟩
abbrev main_while0b_cst_27 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_cst_28 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_cst_29 : Ref sig .tc := ⟨.hbm, 130, rfl⟩
abbrev main_while0b_v77 : Ref sig .tc := ⟨.hbm, 131, rfl⟩
abbrev main_while0b_v78 : Ref sig .tc := ⟨.hbm, 132, rfl⟩
abbrev main_while0b_v79 : Ref sig .tc := ⟨.hbm, 133, rfl⟩
abbrev main_while0b_cst_30 : Ref sig .tc := ⟨.hbm, 134, rfl⟩
abbrev main_while0b_v80 : Ref sig .tc := ⟨.hbm, 135, rfl⟩
abbrev main_while0b_v81 : Ref sig .tc := ⟨.hbm, 136, rfl⟩
abbrev main_while0b_v82 : Ref sig .tc := ⟨.hbm, 137, rfl⟩
abbrev main_while0b_v83 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_call1_v0 : Ref sig .tc := ⟨.hbm, 143, rfl⟩
abbrev main_while0b_call1_cst : Ref sig .tc := ⟨.hbm, 144, rfl⟩
abbrev main_while0b_call1_v1 : Ref sig .tc := ⟨.hbm, 145, rfl⟩
abbrev main_while0b_call1_v2 : Ref sig .tc := ⟨.hbm, 146, rfl⟩
abbrev main_while0b_v88 : Ref sig .tc := ⟨.hbm, 147, rfl⟩
abbrev main_while0b_cst_31 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_cst_32 : Ref sig .tc := ⟨.hbm, 153, rfl⟩
abbrev main_while0b_v93 : Ref sig .tc := ⟨.hbm, 154, rfl⟩
abbrev main_while0b_v94 : Ref sig .tc := ⟨.hbm, 155, rfl⟩
abbrev main_while0b_cst_33 : Ref sig .tc := ⟨.hbm, 156, rfl⟩
abbrev main_while0b_v95 : Ref sig .tc := ⟨.hbm, 157, rfl⟩
abbrev main_while0b_v96 : Ref sig .tc := ⟨.hbm, 158, rfl⟩
abbrev main_while0b_cst_34 : Ref sig .tc := ⟨.hbm, 159, rfl⟩
abbrev main_while0b_v97 : Ref sig .tc := ⟨.hbm, 160, rfl⟩
abbrev main_while0b_v98 : Ref sig .tc := ⟨.hbm, 161, rfl⟩
abbrev main_while0b_c_35 : Ref sig .tc := ⟨.hbm, 162, rfl⟩
abbrev main_while0b_v99 : Ref sig .tc := ⟨.hbm, 163, rfl⟩
abbrev main_v3 : Ref sig .tc := ⟨.hbm, 164, rfl⟩

abbrev nD : Nat := 1
abbrev τ : Topo := Topo.v7x

variable {F : FTy → Type} [FloatOps F]

abbrev main_while0_count : Scf.Loop 32 := ⟨0#32, 32#32, 1#32⟩
-- ==== Proof.KernelFold.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

/-! The kernel's unrolled 32 steps as one step function applied 32 times. -/

noncomputable section

namespace Cert.Fold

open Idealize.ShloMosaic Idealize.SL.Sem Cert.KernelIdeal Cert.KernelIdeal.Gen

/-- The eight rows of a 256-row array from row `o` (a start past the last row wraps around; none occurs). -/
def rows {α : Type} {n : ℕ} (x : (⟨2, ![256, n]⟩ : Shape).Idx → α) (o : ℕ) : (⟨2, ![8, n]⟩ : Shape).Idx → α :=
  fun j => x (ix2 ⟨(o + (j 0).val) % 256, Nat.mod_lt _ (by decide)⟩ (j 1))

/-- A load of eight rows of what one store of the whole array left reads those rows of the stored value. -/
theorem load_rows {n : ℕ} {Val : EltTy → Type} [∀ e, Nonempty (Val e)] {sig : RefSig} {κ : Kind} {sp : Space} {e : EltTy}
    (v : View sig κ sp (⟨2, ![256, n]⟩ : Shape) e) (X : (⟨2, ![256, n]⟩ : Shape).Idx → Val e) (o : ℕ)
    (inb : ∀ a, (![0, 0] : Fin 2 → ℕ) a + (![256, n] : Fin 2 → ℕ) a ≤ (![256, n] : Fin 2 → ℕ) a)
    (inb' : ∀ a, (![o, 0] : Fin 2 → ℕ) a + (![8, n] : Fin 2 → ℕ) a ≤ (![256, n] : Fin 2 → ℕ) a) :
    v.readCov [(⟨Rect.unit (s := (⟨2, ![256, n]⟩ : Shape)) ![0, 0] ![256, n] inb, X⟩ : View.Piece Val (⟨2, ![256, n]⟩ : Shape) e)]
      (Rect.unit (s := (⟨2, ![256, n]⟩ : Shape)) ![o, 0] ![8, n] inb').toLoadRect = rows X o := by
  refine (View.readCov_fill (s := (⟨2, ![256, n]⟩ : Shape)) v inb X [] _ (by intro a; fin_cases a <;> rfl)).trans ?_
  funext j
  have h0 : o + 8 ≤ 256 := inb' 0
  have hj : (j 0).val < 8 := (j 0).isLt
  refine congrArg X (funext fun a => Fin.ext ?_)
  match a with
  | ⟨0, _⟩ => show o + 1 * (j 0).val = (o + (j 0).val) % 256; omega
  | ⟨1, _⟩ => show 0 + 1 * (j 1).val = (j 1).val; omega

variable {F : FTy → Type} [FloatOps F] [Named F]

/-- Step `n`'s first row is at least eight rows before the end. -/
theorem start_inb {w : ℕ} (n : ℕ) :
    ∀ a, (![8 * (n % 32), 0] : Fin 2 → ℕ) a + (![8, w] : Fin 2 → ℕ) a ≤ (![256, w] : Fin 2 → ℕ) a := by
  intro a
  fin_cases a
  · show 8 * (n % 32) + 8 ≤ 256; omega
  · show 0 + w ≤ w; omega

theorem whole_inb {w : ℕ} : ∀ a, (![0, 0] : Fin 2 → ℕ) a + (![256, w] : Fin 2 → ℕ) a ≤ (![256, w] : Fin 2 → ℕ) a := by
  intro a
  fin_cases a
  · show 0 + 256 ≤ 256; omega
  · show 0 + w ≤ w; omega

/-- The eight rows step `n` loads of the array stored whole through a view. -/
def load {sp : Space} {w : ℕ} (v : View sig .tc sp (⟨2, ![256, w]⟩ : Shape) .f32) (X : FVec F (⟨2, ![256, w]⟩ : Shape) .f32) (n : ℕ) :
    FVec F (⟨2, ![8, w]⟩ : Shape) .f32 :=
  v.readCov (Val := Elt F) [⟨Rect.unit (s := (⟨2, ![256, w]⟩ : Shape)) ![0, 0] ![256, w] whole_inb, X⟩]
    (Rect.unit (s := (⟨2, ![256, w]⟩ : Shape)) ![8 * (n % 32), 0] ![8, w] (start_inb n)).toLoadRect

theorem load_eq {sp : Space} {w : ℕ} (v : View sig .tc sp (⟨2, ![256, w]⟩ : Shape) .f32) (X : FVec F (⟨2, ![256, w]⟩ : Shape) .f32) (n : ℕ) :
    load v X n = rows X (8 * (n % 32)) :=
  load_rows (Val := Elt F) v X (8 * (n % 32)) whole_inb (start_inb n)

/-- The values the steps share: the memory inputs of all steps, the input parts of the reset and update gates and of the
    candidate for all steps, and the memory parts of the three weight matrices. -/
structure Shared (F : FTy → Type) [FloatOps F] where
  memin : FVec F S256x256 .f32
  xrg : FVec F S256x512 .f32
  xu : FVec F S256x256 .f32
  wr : FVec F S256x256 .bf16
  wg : FVec F S256x256 .bf16
  wu : FVec F S256x256 .bf16

/-- The write weights of step `n`. -/
def weight (p : Shared F) (n : ℕ) (mem : FVec F S512x256 .f32) (use : FVec F S8x64 .f32) : FVec F S8x64 .f32 :=
  k0_pay16 use (k0_pay15 (load (View.whole cc0_scratch0) p.memin n) mem)

/-- The memory after step `n`, before it is brought to unit length. -/
def content (p : Shared F) (n : ℕ) (mem : FVec F S512x256 .f32) (use : FVec F S8x64 .f32) : FVec F S8x64x256 .f32 :=
  k0_pay17 p.wr p.wg p.wu use (load (View.whole cc0_scratch1) p.xrg n) (load (View.whole cc0_scratch2) p.xu n) (k0_pay13 mem) (k0_pay14 mem)
    (k0_pay15 (load (View.whole cc0_scratch0) p.memin n) mem)

/-- Memory and usage after the first `n` steps. -/
def after (p : Shared F) (mem : FVec F S512x256 .f32) : ℕ → FVec F S512x256 .f32 × FVec F S8x64 .f32
  | 0 => (mem, k0_pay11)
  | n + 1 => (k0_pay18 (content p n (after p mem n).1 (after p mem n).2),
      k0_pay19 (after p mem n).2 (weight p n (after p mem n).1 (after p mem n).2))

variable (m : (ℓ : Loc nD τ sig) → Buf (Elt F) ℓ) (c : Dev nD) (t : Fin cfg0.N)

/-- The shared values as the kernel computes them from its operands' blocks. -/
def shared : Shared F where
  memin := k0_pay2 (iblk m c 0 t) (iblk m c 2 t) (iblk m c 8 t)
  xrg := k0_pay4 (iblk m c 0 t) (iblk m c 3 t) (iblk m c 9 t) (iblk m c 4 t) (iblk m c 10 t)
  xu := k0_pay6 (k0_pay5 (iblk m c 0 t) (iblk m c 3 t) (iblk m c 9 t) (iblk m c 6 t)) (iblk m c 11 t)
  wr := k0_pay8 (View.ld (iblk m c 5 t : Vec F S256x512 .bf16) (Rect.unit (s := S256x512) ![0, 0] ![256, 256] (by decide)))
  wg := k0_pay9 (View.ld (iblk m c 5 t : Vec F S256x512 .bf16) (Rect.unit (s := S256x512) ![0, 256] ![256, 256] (by decide)))
  wu := k0_pay10 (iblk m c 7 t)

set_option maxRecDepth 16384 in
/-- What the kernel's one grid point leaves in its output is the memory after 32 steps. -/
theorem out_eq : outsAt0 m c t = (after (shared m c t) (k0_pay7 (iblk m c 1 t)) 32).1 := by
  unfold outsAt0
  frame_out
  simp only [read_unread_whole]
  sl_kernel_rfl

end Cert.Fold

end
-- ==== Proof.Cell.lean ====
module

public import Idealize.ShloMosaic.PureOps.Ideal
public import Idealize.ShloMosaic.PureOps.Ideal.Laws
public import Mathlib.Data.EReal.Operations

@[expose] public section

/-! The scalar mathematics of one memory step over the extended reals: the write weights of one row of slots do not
    change when every score moves by one real number, the two ways of blending old and new content agree on real
    numbers, and so do the two ways of bringing a slot to unit length. -/

namespace Cert.Cell

open Idealize.ShloMosaic

noncomputable section

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, by push_cast; rfl⟩

theorem IsReal.mul {x y : EReal} (hx : IsReal x) (hy : IsReal y) : IsReal (x * y) := by
  obtain ⟨a, rfl⟩ := hx
  obtain ⟨b, rfl⟩ := hy
  exact ⟨a * b, by push_cast; rfl⟩

/-- A sum of real numbers, taken among the extended reals. -/
theorem coe_sum {n : ℕ} (g : Fin n → ℝ) : ((∑ k, g k : ℝ) : EReal) = ∑ k, (g k : EReal) :=
  map_sum (⟨⟨fun r : ℝ => (r : EReal), EReal.coe_zero⟩, EReal.coe_add⟩ : ℝ →+ EReal) g Finset.univ

theorem IsReal.sum {n : ℕ} {f : Fin n → EReal} (h : ∀ k, IsReal (f k)) : IsReal (∑ k, f k) := by
  choose g hg using h
  refine ⟨∑ k, g k, ?_⟩
  rw [coe_sum]
  exact Finset.sum_congr rfl fun k _ => hg k

/-- What is not a real number is one of the infinities. -/
theorem infinite {x : EReal} (h : ¬IsReal x) : x = ⊥ ∨ x = ⊤ := by
  induction x with
  | bot => exact .inl rfl
  | coe a => exact absurd (IsReal.coe a) h
  | top => exact .inr rfl

theorem not_isReal_top : ¬IsReal ⊤ := fun ⟨a, h⟩ => EReal.coe_ne_top a h.symm

theorem not_isReal_bot : ¬IsReal ⊥ := fun ⟨a, h⟩ => EReal.coe_ne_bot a h.symm

/-- An extended real that is a real number from 0 to 1. -/
def IsPart (x : EReal) : Prop := ∃ r : ℝ, 0 ≤ r ∧ r ≤ 1 ∧ x = (r : EReal)

theorem IsPart.isReal {x : EReal} (h : IsPart x) : IsReal x := by
  obtain ⟨r, _, _, h⟩ := h
  exact ⟨r, h⟩

/-- What the single-precision patterns of the steps' constants stand for: 0.2, here, and below 0.1, 0.5, the two decay
    factors and 1e-12, each as its exact value. -/
theorem fifth : Ideal.ofBits .f32 0x3E4CCCCD#32 = ((13421773 / 67108864 : ℝ) : EReal) := by
  simp [Ideal.ofBits, Ideal.ieee, -EReal.coe_mul]; norm_num

theorem tenth : Ideal.ofBits .f32 0x3DCCCCCD#32 = ((13421773 / 134217728 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem usageDecay : Ideal.ofBits .f32 0x3F7D70A4#32 = ((16609444 / 16777216 : ℝ) : EReal) := by
  simp [Ideal.ofBits, Ideal.ieee, -EReal.coe_mul]; norm_num

theorem ageDecay : Ideal.ofBits .f32 0x3F7AE148#32 = ((16441672 / 16777216 : ℝ) : EReal) := by
  simp [Ideal.ofBits, Ideal.ieee, -EReal.coe_mul]; norm_num

theorem least : Ideal.ofBits .f32 0x2B8CBCCC#32 = ((2305843 / 2305843009213693952 : ℝ) : EReal) := by
  simp [Ideal.ofBits, Ideal.ieee, -EReal.coe_mul]; norm_num

/-! ### The write weights -/

/-- The largest of a row of scores. -/
def top (z : Fin 64 → EReal) : EReal :=
  max (Ideal.ofBits .f32 0xFF800000#32) (Finset.fold max (Ideal.ofBits .f32 0xFF800000#32) z Finset.univ)

/-- The softmax of a row of scores. -/
def soft (z : Fin 64 → EReal) (n : Fin 64) : EReal :=
  Ideal.div (Ideal.exp (z n - top z)) (∑ x, Ideal.exp (z x - top z))

/-- The softmax, with entries not above 0.01 dropped. -/
def pick (z : Fin 64 → EReal) (n : Fin 64) : EReal :=
  if Ideal.ofBits .f32 0x3C23D70A#32 < soft z n then soft z n else 0

theorem negInf : Ideal.ofBits .f32 0xFF800000#32 = ⊥ := by simp [Ideal.ofBits, Ideal.ieee]

theorem top_eq (z : Fin 64 → EReal) : top z = Finset.univ.sup z := by
  rw [top, negInf, max_eq_right bot_le]
  rfl

theorem le_top' (z : Fin 64 → EReal) (n : Fin 64) : z n ≤ top z := by
  rw [top_eq]
  exact Finset.le_sup (Finset.mem_univ n)

/-- Adding one real number to both sides of a subtraction changes nothing. -/
theorem sub_shift (x y : EReal) (r : ℝ) : (x + r) - (y + r) = x - y := by
  induction x <;> induction y <;>
    simp only [EReal.bot_add, EReal.top_add_coe, ← EReal.coe_add, ← EReal.coe_sub, add_sub_add_right_eq_sub] <;>
    first | rfl | simp [sub_eq_add_neg, ← EReal.coe_neg, ← EReal.coe_add]

theorem top_shift (z : Fin 64 → EReal) (r : ℝ) : top (fun n => z n + r) = top z + r := by
  rw [top_eq, top_eq]
  apply le_antisymm
  · exact Finset.sup_le fun n hn => add_le_add_left (Finset.le_sup (f := z) hn) _
  · obtain ⟨n, hn, e⟩ := Finset.exists_mem_eq_sup (Finset.univ : Finset (Fin 64)) ⟨0, Finset.mem_univ _⟩ z
    rw [e]
    exact Finset.le_sup (f := fun n => z n + (r : EReal)) hn

theorem soft_shift (z : Fin 64 → EReal) (r : ℝ) : soft (fun n => z n + r) = soft z := by
  funext n
  simp only [soft, top_shift, sub_shift]

theorem exp_real {x : EReal} (h : x ≤ 0) : ∃ r : ℝ, 0 ≤ r ∧ Ideal.exp x = (r : EReal) := by
  induction x with
  | bot => exact ⟨0, le_rfl, rfl⟩
  | coe a => exact ⟨Real.exp a, (Real.exp_pos a).le, rfl⟩
  | top => simp at h

theorem sub_top_nonpos {x y : EReal} (h : x ≤ y) : x - y ≤ 0 := by
  induction x <;> induction y <;> simp_all [sub_eq_add_neg, ← EReal.coe_neg, ← EReal.coe_add]
  all_goals (first | exact_mod_cast (by linarith) | skip)

/-- An entry of the softmax is a number from 0 to 1 or the junk of `0 / 0`. -/
theorem soft_cases (z : Fin 64 → EReal) (n : Fin 64) : soft z n = ⊥ ∨ IsPart (soft z n) := by
  have h : ∀ k, ∃ r : ℝ, 0 ≤ r ∧ Ideal.exp (z k - top z) = (r : EReal) := fun k => exp_real (sub_top_nonpos (le_top' z k))
  choose g h0 hg using h
  have hs : (∑ x, Ideal.exp (z x - top z)) = ((∑ x, g x : ℝ) : EReal) := by
    rw [coe_sum]
    exact Finset.sum_congr rfl fun k _ => hg k
  rw [soft, hs, hg n]
  by_cases e : (∑ x, g x) = 0
  · left
    have hn : g n = 0 := (Finset.sum_eq_zero_iff_of_nonneg fun k _ => h0 k).1 e n (Finset.mem_univ n)
    simp [Ideal.div, e, hn]
  · right
    have hp : 0 < ∑ x, g x := lt_of_le_of_ne (Finset.sum_nonneg fun k _ => h0 k) (Ne.symm e)
    refine ⟨g n / ∑ x, g x, div_nonneg (h0 n) hp.le, (div_le_one hp).2 ?_, ?_⟩
    · exact Finset.single_le_sum (f := g) (fun k _ => h0 k) (Finset.mem_univ n)
    · rw [Ideal.div_coe e, ← EReal.coe_mul, mul_one_div]

theorem pick_part (z : Fin 64 → EReal) (n : Fin 64) : IsPart (pick z n) := by
  rw [pick]
  split
  · next h =>
    rcases soft_cases z n with e | e
    · simp [e] at h
    · exact e
  · exact ⟨0, le_rfl, zero_le_one, rfl⟩

/-- Dropping an entry by a selection is multiplying it by the comparison's 0 or 1. -/
theorem pick_eq_mul (z : Fin 64 → EReal) (n : Fin 64) :
    pick z n = soft z n * FloatOps.uitofp (F := Ideal) .f32
      (BitVec.ofBool (decide (Ideal.ofBits .f32 0x3C23D70A#32 < soft z n))) := by
  have h1 : FloatOps.uitofp (F := Ideal) .f32 (BitVec.ofBool true) = 1 := by
    show (((BitVec.ofBool true).toNat : ℝ) : EReal) = 1
    simp
  have h0 : FloatOps.uitofp (F := Ideal) .f32 (BitVec.ofBool false) = 0 := by
    show (((BitVec.ofBool false).toNat : ℝ) : EReal) = 0
    simp
  rw [pick]
  split
  · next h => rw [decide_eq_true h, h1, mul_one]
  · next h => rw [decide_eq_false h, h0, mul_zero]

/-- The reference's score is the kernel's score and the age penalty. -/
theorem score_shift (sim : EReal) (a u : ℝ) : -(sim - a - u) = ((u : EReal) - sim) + a := by
  induction sim with
  | bot => simp [sub_eq_add_neg, ← EReal.coe_neg]
  | coe s => push_cast [← EReal.coe_sub, ← EReal.coe_neg, ← EReal.coe_add]; norm_cast; ring
  | top => simp [sub_eq_add_neg, ← EReal.coe_neg]

/-! ### The gates -/

theorem logistic_part (x : EReal) : IsPart (Ideal.logistic x) := by
  induction x with
  | bot => exact ⟨0, le_rfl, zero_le_one, by simp⟩
  | coe a =>
    have h := Real.exp_pos (-a)
    exact ⟨_, by positivity, by rw [inv_le_one₀ (by positivity)]; linarith, Ideal.logistic_coe a⟩
  | top => exact ⟨1, zero_le_one, le_rfl, by simp⟩

theorem tanh_real (x : EReal) : IsReal (Ideal.tanh x) := by
  induction x with
  | bot => exact ⟨-1, by simp⟩
  | coe a => exact ⟨_, rfl⟩
  | top => exact ⟨1, by simp⟩

/-! ### The new content of a slot -/

/-- Moving from the old content towards the candidate, as the kernel writes it and as the reference does. -/
theorem blend {x w h g c : EReal} (hx : IsReal x) (hw : IsReal w) (hh : IsReal h) (hg : IsReal g) (hc : IsReal c) :
    x + w * h * g * (c - x) = x * (1 - w * h) + ((1 - g) * x + g * c) * (w * h) := by
  obtain ⟨x, rfl⟩ := hx
  obtain ⟨w, rfl⟩ := hw
  obtain ⟨h, rfl⟩ := hh
  obtain ⟨g, rfl⟩ := hg
  obtain ⟨c, rfl⟩ := hc
  rw [← EReal.coe_one]
  norm_cast
  ring

/-- A slot's element that is an infinity stays one when it is moved towards the candidate in the kernel's way. -/
theorem move_infinite {x w g c : EReal} (hx : ¬IsReal x) (hw : IsPart w) (hg : IsPart g) (hc : IsReal c) :
    ¬IsReal (x + w * ((1 / 2 : ℝ) : EReal) * g * (c - x)) := by
  obtain ⟨w, w0, -, rfl⟩ := hw
  obtain ⟨g, g0, -, rfl⟩ := hg
  obtain ⟨c, rfl⟩ := hc
  rw [← EReal.coe_mul, ← EReal.coe_mul]
  have h : 0 ≤ w * (1 / 2) * g := by positivity
  generalize w * (1 / 2) * g = q at h
  rcases h.eq_or_lt with rfl | h <;> rcases infinite hx with rfl | rfl
  · simpa using not_isReal_bot
  · simpa using not_isReal_top
  · simpa [EReal.coe_mul_top_of_pos h] using not_isReal_bot
  · simpa [EReal.coe_mul_bot_of_pos h] using not_isReal_bot

/-- And in the reference's way. -/
theorem blend_infinite {x w g c : EReal} (hx : ¬IsReal x) (hw : IsPart w) (hg : IsPart g) (hc : IsReal c) :
    ¬IsReal (x * (1 - w * ((1 / 2 : ℝ) : EReal)) + ((1 - g) * x + g * c) * (w * ((1 / 2 : ℝ) : EReal))) := by
  obtain ⟨w, w0, w1, rfl⟩ := hw
  obtain ⟨g, g0, g1, rfl⟩ := hg
  obtain ⟨c, rfl⟩ := hc
  rw [← EReal.coe_one, ← EReal.coe_mul, ← EReal.coe_sub, ← EReal.coe_sub, ← EReal.coe_mul]
  have hp : 0 < 1 - w * (1 / 2) := by linarith
  have hq : 0 ≤ w * (1 / 2) := by positivity
  have hr : 0 ≤ 1 - g := by linarith
  generalize 1 - w * (1 / 2) = p at hp
  generalize w * (1 / 2) = q at hq
  generalize 1 - g = r at hr
  generalize g * c = d
  rcases infinite hx with rfl | rfl
  · rw [EReal.bot_mul_coe_of_pos hp, EReal.bot_add]
    exact not_isReal_bot
  · rw [EReal.top_mul_coe_of_pos hp]
    rcases hr.eq_or_lt with rfl | hr
    · rw [EReal.coe_zero, zero_mul, zero_add, ← EReal.coe_mul, EReal.top_add_coe]
      exact not_isReal_top
    · rw [EReal.coe_mul_top_of_pos hr, EReal.top_add_coe]
      rcases hq.eq_or_lt with rfl | hq
      · rw [EReal.coe_zero, mul_zero, add_zero]
        exact not_isReal_top
      · rw [EReal.top_mul_coe_of_pos hq, EReal.top_add_top]
        exact not_isReal_top

theorem blend_real {x w h g c : EReal} (hx : IsReal x) (hw : IsReal w) (hh : IsReal h) (hg : IsReal g) (hc : IsReal c) :
    IsReal (x + w * h * g * (c - x)) := by
  obtain ⟨x, rfl⟩ := hx
  obtain ⟨w, rfl⟩ := hw
  obtain ⟨h, rfl⟩ := hh
  obtain ⟨g, rfl⟩ := hg
  obtain ⟨c, rfl⟩ := hc
  exact ⟨x + w * h * g * (c - x), by push_cast; rfl⟩

theorem coe_max (a b : ℝ) : ((max a b : ℝ) : EReal) = max (a : EReal) (b : EReal) :=
  EReal.coe_strictMono.monotone.map_max

/-- Scaling a slot by the inverse root of its squared length, floored at `e²`, is dividing it by its length, floored
    at `e`. -/
theorem unit {e : ℝ} (he : 0 < e) {x : EReal} (hx : IsReal x) {v : Fin 256 → EReal} (hv : ∀ k, IsReal (v k)) :
    x * Ideal.rsqrt (max (∑ k, v k * v k) ((e ^ 2 : ℝ) : EReal)) = Ideal.div x (max (Ideal.sqrt (∑ k, v k * v k)) (e : EReal)) := by
  obtain ⟨x, rfl⟩ := hx
  choose g hg using hv
  have hs : (∑ k, v k * v k) = ((∑ k, g k * g k : ℝ) : EReal) := by
    rw [coe_sum]
    exact Finset.sum_congr rfl fun k _ => by rw [hg k]; push_cast; rfl
  have h0 : 0 ≤ ∑ k, g k * g k := Finset.sum_nonneg fun k _ => mul_self_nonneg _
  rw [hs]
  generalize (∑ k, g k * g k) = q at h0
  have hm : (max (Real.sqrt q) e) ≠ 0 := (lt_of_lt_of_le he (le_max_right _ _)).ne'
  have h1 : Ideal.sqrt (q : EReal) = (Real.sqrt q : EReal) := by rw [Ideal.sqrt_coe, if_neg h0.not_gt]
  have h2 : Ideal.rsqrt (max (q : EReal) ((e ^ 2 : ℝ) : EReal)) = ((max (Real.sqrt q) e)⁻¹ : ℝ) := by
    have hp : 0 < max q (e ^ 2) := lt_of_lt_of_le (by positivity) (le_max_right _ _)
    rw [← coe_max, Ideal.rsqrt_coe, if_neg hp.not_gt, if_neg hp.ne', Real.sqrt_monotone.map_max, Real.sqrt_sq he.le]
  rw [h1, h2, ← coe_max, Ideal.div_coe hm]
  rw [one_div]

theorem square_nonneg (x : EReal) : 0 ≤ x * x := by
  induction x with
  | bot => simp
  | coe a => exact_mod_cast mul_self_nonneg a
  | top => simp

/-- The squared length of a slot with an infinite element is infinite. -/
theorem square_infinite {v : Fin 256 → EReal} {k : Fin 256} (h : ¬IsReal (v k)) : ∑ k, v k * v k = ⊤ := by
  refine top_le_iff.1 (le_trans (top_le_iff.2 ?_) (Finset.single_le_sum (f := fun k => v k * v k) (fun k _ => square_nonneg _)
    (Finset.mem_univ k)))
  rcases infinite h with e | e <;> simp [e]

/-- Scaling such a slot by the inverse root of its squared length leaves zero. -/
theorem scale_infinite (e x : EReal) {v : Fin 256 → EReal} {k : Fin 256} (h : ¬IsReal (v k)) :
    x * Ideal.rsqrt (max (∑ k, v k * v k) e) = 0 := by
  rw [square_infinite h, max_eq_left le_top]
  exact mul_zero x

/-- Dividing such a slot by its length leaves zero. -/
theorem div_infinite (e x : EReal) {v : Fin 256 → EReal} {k : Fin 256} (h : ¬IsReal (v k)) :
    Ideal.div x (max (Ideal.sqrt (∑ k, v k * v k)) e) = 0 := by
  rw [square_infinite h, show Ideal.sqrt ⊤ = ⊤ from rfl, max_eq_left le_top, Ideal.div, if_neg EReal.top_ne_zero, EReal.inv_top, mul_zero]

end

end Cert.Cell

end
-- ==== Proof.Model.lean ====
module

public import proofs.«01_k».proof.Proof.Cell

@[expose] public section

/-! One memory step, written once over numbers indexed by batch, slot and feature. -/

namespace Cert.Model

open Idealize.ShloMosaic Cert.Cell

noncomputable section

/-- What one step is given besides memory and usage: the projected hidden state, the input parts of the two gates and of
    the candidate, and the memory parts of their weights (input feature first). -/
structure Inputs where
  query : Fin 8 → Fin 256 → EReal
  reset : Fin 8 → Fin 256 → EReal
  gate : Fin 8 → Fin 256 → EReal
  update : Fin 8 → Fin 256 → EReal
  wReset : Fin 256 → Fin 256 → EReal
  wGate : Fin 256 → Fin 256 → EReal
  wUpdate : Fin 256 → Fin 256 → EReal

variable (p : Inputs) (M : Fin 8 → Fin 64 → Fin 256 → EReal) (u : Fin 8 → Fin 64 → EReal) (b : Fin 8) (k : Fin 64) (o : Fin 256)

/-- The score of a slot: a fifth of its usage less its similarity to the query. -/
def score : EReal := Ideal.ofBits .f32 0x3E4CCCCD#32 * u b k - ∑ y, M b k y * p.query b y

/-- The write weight of a slot. -/
def weight : EReal := pick (fun x => score p M u b x) k

def resetGate : EReal := Ideal.logistic (∑ y, M b k y * p.wReset y o + p.reset b o)

def updateGate : EReal := Ideal.logistic (∑ y, M b k y * p.wGate y o + p.gate b o)

def candidate : EReal := Ideal.tanh (∑ x, resetGate p M b k x * M b k x * p.wUpdate x o + p.update b o)

/-- The slot moved towards the candidate. -/
def content : EReal :=
  M b k o + weight p M u b k * Ideal.ofBits .f32 0x3F000000#32 * updateGate p M b k o * (candidate p M b k o - M b k o)

/-- The slot after the step: its new content at unit length. -/
def next : EReal :=
  content p M u b k o *
    Ideal.rsqrt (max (∑ x, content p M u b k x * content p M u b k x) (((2305843 / 2305843009213693952 : ℝ) ^ 2 : ℝ) : EReal))

/-- The usage after the step. -/
def nextUse : EReal := (u b k + weight p M u b k) * Ideal.ofBits .f32 0x3F7D70A4#32

variable {p M u b k o}

theorem weight_part : IsPart (weight p M u b k) := pick_part _ _

theorem updateGate_part : IsPart (updateGate p M b k o) := logistic_part _

theorem candidate_real : IsReal (candidate p M b k o) := tanh_real _

/-- The slot's new content as the reference computes it. -/
def blended (p : Inputs) (M : Fin 8 → Fin 64 → Fin 256 → EReal) (u : Fin 8 → Fin 64 → EReal) (b : Fin 8) (k : Fin 64) (o : Fin 256) :
    EReal :=
  M b k o * (1 - weight p M u b k * Ideal.ofBits .f32 0x3F000000#32) +
    ((1 - updateGate p M b k o) * M b k o + updateGate p M b k o * candidate p M b k o) *
      (weight p M u b k * Ideal.ofBits .f32 0x3F000000#32)

/-- The two ways of blending old content and candidate agree on a real element. -/
theorem content_eq (h : IsReal (M b k o)) : content p M u b k o = blended p M u b k o :=
  blend h weight_part.isReal (half ▸ IsReal.coe _) updateGate_part.isReal candidate_real

theorem blended_real (h : IsReal (M b k o)) : IsReal (blended p M u b k o) :=
  content_eq (p := p) (u := u) h ▸
    blend_real h weight_part.isReal (half ▸ IsReal.coe _) updateGate_part.isReal candidate_real

/-- Scaling by the inverse root is dividing by the length. A slot with an infinite element becomes zero either way. -/
theorem next_eq : next p M u b k o = Ideal.div (blended p M u b k o)
    (max (Ideal.sqrt (∑ x, blended p M u b k x * blended p M u b k x)) (Ideal.ofBits .f32 0x2B8CBCCC#32)) := by
  by_cases h : ∀ x, IsReal (M b k x)
  · rw [least]
    simp only [next, content_eq (h _)]
    exact unit (by norm_num) (blended_real (h o)) fun x => blended_real (h x)
  · obtain ⟨x, hx⟩ := not_forall.1 h
    have h1 : ¬IsReal (content p M u b k x) := by
      rw [content, half]
      exact move_infinite hx weight_part updateGate_part candidate_real
    have h2 : ¬IsReal (blended p M u b k x) := by
      rw [blended, half]
      exact blend_infinite hx weight_part updateGate_part candidate_real
    rw [next, scale_infinite (v := fun x => content p M u b k x) _ _ h1, div_infinite (v := fun x => blended p M u b k x) _ _ h2]

theorem nextUse_real (hu : ∀ b k, IsReal (u b k)) : IsReal (nextUse p M u b k) :=
  ((hu b k).add weight_part.isReal).mul (usageDecay ▸ IsReal.coe _)

/-- The write weights of scores that also carry one age penalty for all slots of a row, with the small entries dropped by
    a product. -/
theorem weight_eq (hu : ∀ b k, IsReal (u b k)) {a : EReal} (ha : IsReal a) :
    weight p M u b k = pick (fun x => -(∑ y, p.query b y * M b x y - a * Ideal.ofBits .f32 0x3DCCCCCD#32 -
      u b x * Ideal.ofBits .f32 0x3E4CCCCD#32)) k := by
  obtain ⟨a, rfl⟩ := ha
  have e : (fun x => -(∑ y, p.query b y * M b x y - (a : EReal) * Ideal.ofBits .f32 0x3DCCCCCD#32 -
      u b x * Ideal.ofBits .f32 0x3E4CCCCD#32)) = fun x => score p M u b x + ((a * (13421773 / 134217728) : ℝ) : EReal) := by
    funext x
    obtain ⟨v, hv⟩ := hu b x
    rw [score, hv, fifth, tenth, ← EReal.coe_mul, ← EReal.coe_mul, ← EReal.coe_mul, score_shift, mul_comm v]
    simp only [mul_comm]
  rw [e, weight]
  simp only [pick, soft_shift]

/-- The arguments the steps read, but for the initial memory. -/
structure Args where
  hidden : Fin 8 → Fin 32 → Fin 1024 → EReal
  queryW : Fin 256 → Fin 1024 → EReal
  queryB : Fin 256 → EReal
  valueW : Fin 256 → Fin 1024 → EReal
  valueB : Fin 256 → EReal
  resetW : Fin 256 → Fin 512 → EReal
  resetB : Fin 256 → EReal
  gateW : Fin 256 → Fin 512 → EReal
  gateB : Fin 256 → EReal
  updateW : Fin 256 → Fin 512 → EReal
  updateB : Fin 256 → EReal

/-- The projection of hidden state `n` that the slots are compared with. -/
def Args.query (A : Args) (n : Fin 32) (b : Fin 8) (l : Fin 256) : EReal := ∑ x, A.hidden b n x * A.queryW l x + A.queryB l

/-- The projection of hidden state `n` that is written. -/
def Args.value (A : Args) (n : Fin 32) (b : Fin 8) (l : Fin 256) : EReal := ∑ x, A.hidden b n x * A.valueW l x + A.valueB l

/-- A gate's part that comes from the written value: the first half of the gate's weights, and its bias. -/
def Args.part (A : Args) (n : Fin 32) (W : Fin 256 → Fin 512 → EReal) (B : Fin 256 → EReal) (b : Fin 8) (o : Fin 256) : EReal :=
  ∑ x : Fin 256, A.value n b x * W o ⟨x.val, by omega⟩ + B o

/-- What step `n` is given. -/
def Args.inputs (A : Args) (n : Fin 32) : Inputs where
  query := A.query n
  reset := A.part n A.resetW A.resetB
  gate := A.part n A.gateW A.gateB
  update := A.part n A.updateW A.updateB
  wReset y o := A.resetW o ⟨256 + y.val, by omega⟩
  wGate y o := A.gateW o ⟨256 + y.val, by omega⟩
  wUpdate y o := A.updateW o ⟨256 + y.val, by omega⟩

end

end Cert.Model

end
-- ==== Proof.KernelStep.lean ====
module

public import proofs.«01_k».proof.Proof.KernelFold
public import proofs.«01_k».proof.Proof.Model

@[expose] public section

/-! The kernel's step read at an index is the step of the model. -/

noncomputable section

namespace Cert.Fold

open Idealize.ShloMosaic Idealize.SL.Sem Cert.KernelIdeal Cert.KernelIdeal.Gen

/-- The row of the flat memory that holds slot `k` of batch `b`. -/
def slot (b : Fin 8) (k : Fin 64) : Fin 512 := ⟨b.val * 64 + k.val, by omega⟩

/-- The flat memory by batch, slot and feature. -/
def cube (mem : FVec Ideal S512x256 .f32) (b : Fin 8) (k : Fin 64) (o : Fin 256) : EReal := mem (ix2 (slot b k) o)

/-- The usage by batch and slot. -/
def grid (use : FVec Ideal S8x64 .f32) (b : Fin 8) (k : Fin 64) : EReal := use (ix2 b k)

/-- What step `n` is given, by batch and feature. -/
def inputs (p : Shared Ideal) (n : ℕ) : Model.Inputs where
  query b o := rows p.memin (8 * (n % 32)) (ix2 b o)
  reset b o := rows p.xrg (8 * (n % 32)) (ix2 b ⟨o.val, by omega⟩)
  gate b o := rows p.xrg (8 * (n % 32)) (ix2 b ⟨256 + o.val, by omega⟩)
  update b o := rows p.xu (8 * (n % 32)) (ix2 b o)
  wReset y o := p.wr (ix2 y o)
  wGate y o := p.wg (ix2 y o)
  wUpdate y o := p.wu (ix2 y o)

variable (p : Shared Ideal) (n : ℕ) (mem : FVec Ideal S512x256 .f32) (use : FVec Ideal S8x64 .f32) (b : Fin 8) (k : Fin 64) (o : Fin 256)

set_option maxRecDepth 16384 in
theorem similarity_at : k0_pay15 (load (View.whole cc0_scratch0) p.memin n) mem (ix2 b k) = ∑ y, cube mem b k y * (inputs p n).query b y := by
  rw [load_eq]
  pointwise [k0_pay15, k0_pay14, k0_pay12]
  rfl

set_option maxRecDepth 16384 in
theorem pick_at (s : FVec Ideal S8x64 .f32) : k0_pay16 use s (ix2 b k) =
    Cell.pick (fun x => Ideal.ofBits .f32 0x3E4CCCCD#32 * use (ix2 b x) - s (ix2 b x)) k := by
  pointwise [k0_pay16]
  rfl

theorem weight_at : weight p n mem use (ix2 b k) = Model.weight (inputs p n) (cube mem) (grid use) b k := by
  simp only [weight, pick_at, similarity_at]
  rfl

set_option maxRecDepth 16384 in
theorem content_at : content p n mem use (ix3 b k o) = Model.content (inputs p n) (cube mem) (grid use) b k o := by
  have h := weight_at p n mem use b k
  rw [weight] at h
  rw [Model.content, ← h, content]
  generalize k0_pay15 (load (View.whole cc0_scratch0) p.memin n) mem = s
  rw [load_eq, load_eq]
  pointwise [k0_pay17, k0_pay14, k0_pay13, k0_pay12]
  rfl

set_option maxRecDepth 16384 in
theorem unit_at (X : FVec Ideal S8x64x256 .f32) : cube (k0_pay18 X) b k o =
    X (ix3 b k o) * Ideal.rsqrt (max (∑ x, X (ix3 b k x) * X (ix3 b k x)) (Named.named κ "least_square" 0x179ABE15#32 : Ideal .f32)) := by
  unfold cube slot
  pointwise [k0_pay18]

theorem floor_eq : (Named.named κ "least_square" 0x179ABE15#32 : Ideal .f32) =
    (((2305843 / 2305843009213693952 : ℝ) ^ 2 : ℝ) : EReal) := by
  rw [IdealRules.named_const.ideal_named_scalar _ _ _ _ rfl]
  norm_num

/-- The memory after one kernel step is the model's. -/
theorem next_at : cube (k0_pay18 (content p n mem use)) b k o = Model.next (inputs p n) (cube mem) (grid use) b k o := by
  simp only [unit_at, floor_eq, content_at, Model.next]

set_option maxRecDepth 16384 in
/-- The usage after one kernel step is the model's. -/
theorem nextUse_at : grid (k0_pay19 use (weight p n mem use)) b k = Model.nextUse (inputs p n) (cube mem) (grid use) b k := by
  rw [Model.nextUse, ← weight_at]
  unfold grid
  pointwise [k0_pay19]

end Cert.Fold

end
-- ==== Proof.Operands.lean ====
module

public import proofs.«01_k».proof.Proof.Gen.KernelIdeal.Value
public import Idealize.ShloMosaic.Lib.Pipeline.ValueKit
public import Idealize.ShloMosaic.Lib.Claim
public import Idealize.ShloMosaic.Lib.Pointwise

@[expose] public section

/-! The operands of the kernel, read at an index of the arguments. -/

noncomputable section

namespace Cert.Operands

open Idealize.ShloMosaic Idealize.ShloMosaic.TcCoe Idealize.SL.Sem Cert.KernelIdeal Cert.KernelIdeal.Gen

/-- Every window's one block is its whole array. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] :=
  (by decide +kernel : ∀ t : Fin grid0.N, _)

variable (m : (ℓ : Loc nD τ sig) → Buf (Elt Ideal) ℓ) (c : Dev nD) (t : Fin cfg0.N)

set_option maxRecDepth 16384

/-- The first half of the columns, transposed. -/
theorem first_half (W : S256x512.Idx → EReal) (x o : Fin 256) :
    transpose S256x256 [1, 0] (extractStridedSlice S256x256 ![0, 0] W slices_S256x512_S256x256_0_0) transposes_S256x256_S256x256_1_0
      (ix2 x o) = W (ix2 o ⟨x.val, by omega⟩) := by
  pointwise

/-- The second half of the columns, transposed. -/
theorem second_half (W : S256x512.Idx → EReal) (x o : Fin 256) :
    transpose S256x256 [1, 0] (extractStridedSlice S256x256 ![0, 256] W slices_S256x512_S256x256_0_256) transposes_S256x256_S256x256_1_0
      (ix2 x o) = W (ix2 o ⟨256 + x.val, by omega⟩) := by
  pointwise

/-- A projection's weights, transposed. -/
theorem whole (W : S256x1024.Idx → EReal) (x : Fin 1024) (l : Fin 256) :
    transpose S1024x256 [1, 0] W transposes_S256x1024_S1024x256_1_0 (ix2 x l) = W (ix2 l x) := by
  pointwise

/-- The hidden states with the steps first, flattened to one row for each step and batch. -/
theorem flat (h : S8x32x1024.Idx → EReal) (r : Fin 256) (x : Fin 1024) :
    shapeCast S256x1024 (transpose S32x8x1024 [1, 0, 2] h transposes_S8x32x1024_S32x8x1024_1_0_2) shapeCasts_S32x8x1024_S256x1024
      (ix2 r x) = h (ix3 ⟨r.val % 8, by omega⟩ ⟨r.val / 8, by omega⟩ x) := by
  pointwise

theorem hidden_at (r : Fin 256) (x : Fin 1024) : (iblk m c 0 t : Vec Ideal S256x1024 .bf16) (ix2 r x) =
    (m ((c : Thread nD τ).loc main_arg0) : S8x32x1024.Idx → EReal) (ix3 ⟨r.val % 8, by omega⟩ ⟨r.val / 8, by omega⟩ x) := by
  trans (V m c main_call0_v2 : S256x1024.Idx → EReal) (ix2 r x)
  · blk_ext [iblk, idx t]
  · entry_read
    exact flat _ r x

theorem memory_at (r : Fin 512) (x : Fin 256) : (iblk m c 1 t : Vec Ideal S512x256 .f32) (ix2 r x) =
    (m ((c : Thread nD τ).loc main_arg1) : S8x64x256.Idx → EReal) (ix3 ⟨r.val / 64, by omega⟩ ⟨r.val % 64, by omega⟩ x) := by
  trans (V m c main_call0_v3 : S512x256.Idx → EReal) (ix2 r x)
  · blk_ext [iblk, idx t]
  · entry_read
    pointwise

theorem query_at (x : Fin 1024) (l : Fin 256) : (iblk m c 2 t : Vec Ideal S1024x256 .bf16) (ix2 x l) =
    (m ((c : Thread nD τ).loc main_arg2) : S256x1024.Idx → EReal) (ix2 l x) := by
  trans (V m c main_call0_v5 : S1024x256.Idx → EReal) (ix2 x l)
  · blk_ext [iblk, idx t]
  · entry_read
    exact whole _ x l

theorem value_at (x : Fin 1024) (l : Fin 256) : (iblk m c 3 t : Vec Ideal S1024x256 .bf16) (ix2 x l) =
    (m ((c : Thread nD τ).loc main_arg4) : S256x1024.Idx → EReal) (ix2 l x) := by
  trans (V m c main_call0_v7 : S1024x256.Idx → EReal) (ix2 x l)
  · blk_ext [iblk, idx t]
  · entry_read
    exact whole _ x l

theorem update_in_at (x o : Fin 256) : (iblk m c 6 t : Vec Ideal S256x256 .bf16) (ix2 x o) =
    (m ((c : Thread nD τ).loc main_arg10) : S256x512.Idx → EReal) (ix2 o ⟨x.val, by omega⟩) := by
  trans (V m c main_call0_v22 : S256x256.Idx → EReal) (ix2 x o)
  · blk_ext [iblk, idx t]
  · entry_read
    exact first_half _ x o

theorem update_mem_at (x o : Fin 256) : (iblk m c 7 t : Vec Ideal S256x256 .bf16) (ix2 x o) =
    (m ((c : Thread nD τ).loc main_arg10) : S256x512.Idx → EReal) (ix2 o ⟨256 + x.val, by omega⟩) := by
  trans (V m c main_call0_v25 : S256x256.Idx → EReal) (ix2 x o)
  · blk_ext [iblk, idx t]
  · entry_read
    exact second_half _ x o

theorem reset_in_at (x o : Fin 256) : (iblk m c 4 t : Vec Ideal S256x512 .bf16) (ix2 x ⟨o.val, by omega⟩) =
    (m ((c : Thread nD τ).loc main_arg6) : S256x512.Idx → EReal) (ix2 o ⟨x.val, by omega⟩) := by
  trans (V m c main_call0_v13 : S256x512.Idx → EReal) (ix2 x ⟨o.val, by omega⟩)
  · blk_ext [iblk, idx t]
  · entry_read
    refine (concatenate_pair_apply_left (t := S256x512) (s₁ := S256x256) (s₂ := S256x256) 1 _ _
      concatenates_S256x256_S256x256_S256x512_d1 (ix2 x ⟨o.val, by omega⟩) rfl (ix2 x o) fun b => ?_).trans ?_
    · fin_cases b <;> rfl
    · exact first_half _ x o

theorem gate_in_at (x o : Fin 256) : (iblk m c 4 t : Vec Ideal S256x512 .bf16) (ix2 x ⟨256 + o.val, by omega⟩) =
    (m ((c : Thread nD τ).loc main_arg8) : S256x512.Idx → EReal) (ix2 o ⟨x.val, by omega⟩) := by
  trans (V m c main_call0_v13 : S256x512.Idx → EReal) (ix2 x ⟨256 + o.val, by omega⟩)
  · blk_ext [iblk, idx t]
  · entry_read
    refine (concatenate_pair_apply_right (t := S256x512) (s₁ := S256x256) (s₂ := S256x256) 1 _ _
      concatenates_S256x256_S256x256_S256x512_d1 (ix2 x ⟨256 + o.val, by omega⟩) rfl rfl (ix2 x o) (fun b hb => ?_) (Nat.add_comm ..)).trans ?_
    · fin_cases b
      · rfl
      · exact absurd rfl hb
    · exact first_half _ x o

theorem reset_mem_at (x o : Fin 256) : (iblk m c 5 t : Vec Ideal S256x512 .bf16) (ix2 x ⟨o.val, by omega⟩) =
    (m ((c : Thread nD τ).loc main_arg6) : S256x512.Idx → EReal) (ix2 o ⟨256 + x.val, by omega⟩) := by
  trans (V m c main_call0_v19 : S256x512.Idx → EReal) (ix2 x ⟨o.val, by omega⟩)
  · blk_ext [iblk, idx t]
  · entry_read
    refine (concatenate_pair_apply_left (t := S256x512) (s₁ := S256x256) (s₂ := S256x256) 1 _ _
      concatenates_S256x256_S256x256_S256x512_d1 (ix2 x ⟨o.val, by omega⟩) rfl (ix2 x o) fun b => ?_).trans ?_
    · fin_cases b <;> rfl
    · exact second_half _ x o

theorem gate_mem_at (x o : Fin 256) : (iblk m c 5 t : Vec Ideal S256x512 .bf16) (ix2 x ⟨256 + o.val, by omega⟩) =
    (m ((c : Thread nD τ).loc main_arg8) : S256x512.Idx → EReal) (ix2 o ⟨256 + x.val, by omega⟩) := by
  trans (V m c main_call0_v19 : S256x512.Idx → EReal) (ix2 x ⟨256 + o.val, by omega⟩)
  · blk_ext [iblk, idx t]
  · entry_read
    refine (concatenate_pair_apply_right (t := S256x512) (s₁ := S256x256) (s₂ := S256x256) 1 _ _
      concatenates_S256x256_S256x256_S256x512_d1 (ix2 x ⟨256 + o.val, by omega⟩) rfl rfl (ix2 x o) (fun b hb => ?_) (Nat.add_comm ..)).trans ?_
    · fin_cases b
      · rfl
      · exact absurd rfl hb
    · exact second_half _ x o

theorem query_bias_at (l : Fin 256) : (iblk m c 8 t : Vec Ideal S1x256 .f32) (ix2 0 l) =
    (m ((c : Thread nD τ).loc main_arg3) : S256.Idx → EReal) (ix1 l) := by
  trans (V m c main_call0_v28 : S1x256.Idx → EReal) (ix2 0 l)
  · blk_ext [iblk, idx t]
  · entry_read
    pointwise

theorem value_bias_at (l : Fin 256) : (iblk m c 9 t : Vec Ideal S1x256 .f32) (ix2 0 l) =
    (m ((c : Thread nD τ).loc main_arg5) : S256.Idx → EReal) (ix1 l) := by
  trans (V m c main_call0_v29 : S1x256.Idx → EReal) (ix2 0 l)
  · blk_ext [iblk, idx t]
  · entry_read
    pointwise

theorem reset_bias_at (l : Fin 256) : (iblk m c 10 t : Vec Ideal S1x512 .f32) (ix2 0 ⟨l.val, by omega⟩) =
    (m ((c : Thread nD τ).loc main_arg7) : S256.Idx → EReal) (ix1 l) := by
  trans (V m c main_call0_v27 : S1x512.Idx → EReal) (ix2 0 ⟨l.val, by omega⟩)
  · blk_ext [iblk, idx t]
  · entry_read
    pointwise
    refine (concatenate_pair_apply_left (t := S512) (s₁ := S256) (s₂ := S256) 0 _ _
      concatenates_S256_S256_S512_d0 (ix1 ⟨l.val, by omega⟩) rfl (ix1 l) fun b => ?_).trans ?_
    · fin_cases b; rfl
    · rfl

theorem gate_bias_at (l : Fin 256) : (iblk m c 10 t : Vec Ideal S1x512 .f32) (ix2 0 ⟨256 + l.val, by omega⟩) =
    (m ((c : Thread nD τ).loc main_arg9) : S256.Idx → EReal) (ix1 l) := by
  trans (V m c main_call0_v27 : S1x512.Idx → EReal) (ix2 0 ⟨256 + l.val, by omega⟩)
  · blk_ext [iblk, idx t]
  · entry_read
    pointwise
    refine (concatenate_pair_apply_right (t := S512) (s₁ := S256) (s₂ := S256) 0 _ _
      concatenates_S256_S256_S512_d0 (ix1 ⟨256 + l.val, by omega⟩) rfl rfl (ix1 l) (fun b hb => ?_) (Nat.add_comm ..)).trans ?_
    · fin_cases b; exact absurd rfl hb
    · rfl

theorem update_bias_at (l : Fin 256) : (iblk m c 11 t : Vec Ideal S1x256 .f32) (ix2 0 l) =
    (m ((c : Thread nD τ).loc main_arg11) : S256.Idx → EReal) (ix1 l) := by
  trans (V m c main_call0_v30 : S1x256.Idx → EReal) (ix2 0 l)
  · blk_ext [iblk, idx t]
  · entry_read
    pointwise

end Cert.Operands

end
-- ==== Proof.KernelInputs.lean ====
module

public import proofs.«01_k».proof.Proof.KernelStep
public import proofs.«01_k».proof.Proof.Operands

@[expose] public section

/-! What the kernel's steps are given, from the arguments. -/

noncomputable section

namespace Cert.Fold

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N) (n : Fin 32) (b : Fin 8) (l o y : Fin 256)

/-- The arguments, by coordinates. -/
def args : Model.Args where
  hidden b n x := (m ((c : Thread nD τ).loc main_arg0) : S8x32x1024.Idx → EReal) (ix3 b n x)
  queryW l x := (m ((c : Thread nD τ).loc main_arg2) : S256x1024.Idx → EReal) (ix2 l x)
  queryB l := (m ((c : Thread nD τ).loc main_arg3) : S256.Idx → EReal) (ix1 l)
  valueW l x := (m ((c : Thread nD τ).loc main_arg4) : S256x1024.Idx → EReal) (ix2 l x)
  valueB l := (m ((c : Thread nD τ).loc main_arg5) : S256.Idx → EReal) (ix1 l)
  resetW l x := (m ((c : Thread nD τ).loc main_arg6) : S256x512.Idx → EReal) (ix2 l x)
  resetB l := (m ((c : Thread nD τ).loc main_arg7) : S256.Idx → EReal) (ix1 l)
  gateW l x := (m ((c : Thread nD τ).loc main_arg8) : S256x512.Idx → EReal) (ix2 l x)
  gateB l := (m ((c : Thread nD τ).loc main_arg9) : S256.Idx → EReal) (ix1 l)
  updateW l x := (m ((c : Thread nD τ).loc main_arg10) : S256x512.Idx → EReal) (ix2 l x)
  updateB l := (m ((c : Thread nD τ).loc main_arg11) : S256.Idx → EReal) (ix1 l)

/-- The row that holds batch `b` of step `n`. -/
def row (n : Fin 32) (b : Fin 8) : Fin 256 := ⟨8 * n.val + b.val, by omega⟩

theorem rows_at {w : ℕ} (X : (⟨2, ![256, w]⟩ : Shape).Idx → EReal) (x : Fin w) :
    rows X (8 * (n.val % 32)) (ix2 b x) = X (ix2 (row n b) x) := by
  refine congrArg (fun r => X (ix2 r x)) (Fin.ext ?_)
  show (8 * (n.val % 32) + b.val) % 256 = 8 * n.val + b.val
  omega

theorem hidden_row (x : Fin 1024) : (iblk m c 0 t : Vec Ideal S256x1024 .bf16) (ix2 (row n b) x) = (args m c).hidden b n x := by
  rw [Operands.hidden_at]
  refine congrArg₂ (fun b n => (args m c).hidden b n x) (Fin.ext ?_) (Fin.ext ?_)
  · show (8 * n.val + b.val) % 8 = b.val; omega
  · show (8 * n.val + b.val) / 8 = n.val; omega

set_option maxRecDepth 16384 in
theorem query_at : (shared m c t).memin (ix2 (row n b) l) = (args m c).query n b l := by
  simp only [Model.Args.query, ← hidden_row m c t]
  unfold shared args
  simp only [← Operands.query_at m c t, ← Operands.query_bias_at m c t]
  pointwise [k0_pay2, k0_pay1]

set_option maxRecDepth 16384 in
theorem value_at : k0_pay3 (iblk m c 0 t) (iblk m c 3 t) (iblk m c 9 t) (ix2 (row n b) l) = (args m c).value n b l := by
  simp only [Model.Args.value, ← hidden_row m c t]
  unfold args
  simp only [← Operands.value_at m c t, ← Operands.value_bias_at m c t]
  pointwise [k0_pay3, k0_pay1]

set_option maxRecDepth 16384 in
theorem reset_at : (shared m c t).xrg (ix2 (row n b) ⟨l.val, by omega⟩) = (args m c).part n (args m c).resetW (args m c).resetB b l := by
  simp only [Model.Args.part, ← value_at m c t]
  unfold shared args
  simp only [← Operands.reset_in_at m c t, ← Operands.reset_bias_at m c t]
  pointwise [k0_pay4]

set_option maxRecDepth 16384 in
theorem gate_at : (shared m c t).xrg (ix2 (row n b) ⟨256 + l.val, by omega⟩) = (args m c).part n (args m c).gateW (args m c).gateB b l := by
  simp only [Model.Args.part, ← value_at m c t]
  unfold shared args
  simp only [← Operands.gate_in_at m c t, ← Operands.gate_bias_at m c t]
  pointwise [k0_pay4]

set_option maxRecDepth 16384 in
theorem update_at : (shared m c t).xu (ix2 (row n b) l) = (args m c).part n (args m c).updateW (args m c).updateB b l := by
  simp only [Model.Args.part, ← value_at m c t]
  unfold shared args
  simp only [← Operands.update_in_at m c t, ← Operands.update_bias_at m c t]
  pointwise [k0_pay6, k0_pay5]

set_option maxRecDepth 16384 in
theorem wReset_at : (shared m c t).wr (ix2 y o) = (args m c).resetW o ⟨256 + y.val, by omega⟩ := by
  unfold shared args
  simp only [← Operands.reset_mem_at m c t]
  pointwise [k0_pay8]

set_option maxRecDepth 16384 in
theorem wGate_at : (shared m c t).wg (ix2 y o) = (args m c).gateW o ⟨256 + y.val, by omega⟩ := by
  unfold shared args
  simp only [← Operands.gate_mem_at m c t]
  pointwise [k0_pay9]

set_option maxRecDepth 16384 in
theorem wUpdate_at : (shared m c t).wu (ix2 y o) = (args m c).updateW o ⟨256 + y.val, by omega⟩ := by
  unfold shared args
  simp only [← Operands.update_mem_at m c t]
  pointwise [k0_pay10]

/-- What step `n` is given is computed from the arguments as the model says. -/
theorem inputs_eq : inputs (shared m c t) n.val = (args m c).inputs n := by
  unfold inputs Model.Args.inputs
  simp only [rows_at, query_at, reset_at, gate_at, update_at, wReset_at, wGate_at, wUpdate_at]

set_option maxRecDepth 16384 in
/-- The memory the steps start from is the argument. -/
theorem start_at (k : Fin 64) : cube (k0_pay7 (iblk m c 1 t)) b k o =
    (m ((c : Thread nD τ).loc main_arg1) : S8x64x256.Idx → EReal) (ix3 b k o) := by
  unfold cube
  pointwise [k0_pay7]
  rw [Operands.memory_at]
  refine congrArg₂ (fun b k => (m ((c : Thread nD τ).loc main_arg1) : S8x64x256.Idx → EReal) (ix3 b k o)) (Fin.ext ?_) (Fin.ext ?_)
  · show (b.val * 64 + k.val) / 64 = b.val; omega
  · show (b.val * 64 + k.val) % 64 = k.val; omega

end Cert.Fold

end
-- ==== Proof.RefStep.lean ====
module

public import proofs.«01_k».proof.Proof.Gen.ReferenceIdeal.Step
public import proofs.«01_k».proof.Proof.Model
public import Idealize.ShloMosaic.Lib.Pointwise

@[expose] public section

/-! The reference's step read at an index is the step of the model, on real usage and an age that is the same real number in every
    slot. -/

noncomputable section

namespace Cert.RefStep

open Idealize.ShloMosaic Cert.ReferenceIdeal Cert.ReferenceIdeal.Gen Cert.ReferenceIdeal.Step

variable (j : ℕ) (s : State Ideal) (b : Fin 8) (k : Fin 64) (o : Fin 256)

/-- The memory by batch, slot and feature. -/
def cube (s : State Ideal) (b : Fin 8) (k : Fin 64) (o : Fin 256) : EReal := s.main_v2_13 (ix3 b k o)

/-- The usage by batch and slot. -/
def grid (s : State Ideal) (b : Fin 8) (k : Fin 64) : EReal := s.main_v2_14 (ix2 b k)

/-- What step `j` is given: the projections of its hidden state, and the two halves of each weight matrix. -/
def inputs (j : ℕ) (s : State Ideal) : Model.Inputs where
  query b o := b16 j s (ix2 b o)
  reset b o := ∑ x : Fin 256, b30 j s (ix2 b x) * s.main_v2_5 (ix2 o ⟨x.val, by omega⟩) + s.main_v2_6 (ix1 o)
  gate b o := ∑ x : Fin 256, b30 j s (ix2 b x) * s.main_v2_7 (ix2 o ⟨x.val, by omega⟩) + s.main_v2_8 (ix1 o)
  update b o := ∑ x : Fin 256, b30 j s (ix2 b x) * s.main_v2_9 (ix2 o ⟨x.val, by omega⟩) + s.main_v2_10 (ix1 o)
  wReset y o := s.main_v2_5 (ix2 o ⟨256 + y.val, by omega⟩)
  wGate y o := s.main_v2_7 (ix2 o ⟨256 + y.val, by omega⟩)
  wUpdate y o := s.main_v2_9 (ix2 o ⟨256 + y.val, by omega⟩)

/-- A state the steps stay in: real usage, one real age for all slots. -/
structure Good (s : State Ideal) : Prop where
  use : ∀ b k, Cell.IsReal (grid s b k)
  age : ∃ a : EReal, Cell.IsReal a ∧ ∀ b k, s.main_v2_15 (ix2 b k) = a

set_option maxRecDepth 16384 in
theorem score_at : b25 j s (ix2 b k) = ∑ y, (inputs j s).query b y * cube s b k y - s.main_v2_15 (ix2 b k) * Ideal.ofBits .f32 0x3DCCCCCD#32 -
    grid s b k * Ideal.ofBits .f32 0x3E4CCCCD#32 := by
  pointwise [b25, b24, b23, b22, b21, b20, b19, b18, b17]
  rfl

set_option maxRecDepth 16384 in
theorem soft_at : b45 j s (ix2 b k) = Cell.soft (fun x => -(b25 j s (ix2 b x))) k := by
  pointwise [b45, b44, b43, b42, b41, b40, b39, b38, b37, b36, b35, b34, b33, b32, b31]
  rfl

set_option maxRecDepth 16384 in
theorem pick_at : b50 j s (ix2 b k) = Cell.pick (fun x => -(b25 j s (ix2 b x))) k := by
  rw [Cell.pick_eq_mul, ← soft_at]
  pointwise [b50, b49, b48, b47, b46]

variable {s}

theorem weight_at (h : Good s) : b50 j s (ix2 b k) = Model.weight (inputs j s) (cube s) (grid s) b k := by
  obtain ⟨a, ha, e⟩ := h.age
  rw [pick_at, Model.weight_eq h.use ha]
  simp only [score_at, e]

variable (s)

set_option maxRecDepth 16384 in
theorem reset_at : b66 j s (ix3 b k o) = Model.resetGate (inputs j s) (cube s) b k o := by
  rw [Model.resetGate, add_comm, inputs, add_assoc, add_comm (s.main_v2_6 _), ← add_assoc, Ideal.logistic]
  pointwise [b66, b65, b64, b63, b62, b61, b60, b59, b58, b57, b56, b55, b54, b53, b52, b51]
  rfl

set_option maxRecDepth 16384 in
theorem update_at : b79 j s (ix3 b k o) = Model.updateGate (inputs j s) (cube s) b k o := by
  rw [Model.updateGate, add_comm, inputs, add_assoc, add_comm (s.main_v2_8 _), ← add_assoc, Ideal.logistic]
  pointwise [b79, b78, b77, b76, b75, b74, b73, b72, b71, b70, b69, b68, b67, b53, b52, b51]
  rfl

set_option maxRecDepth 16384 in
theorem candidate_at : b87 j s (ix3 b k o) = Model.candidate (inputs j s) (cube s) b k o := by
  simp only [Model.candidate, ← reset_at]
  rw [add_comm, inputs, add_assoc, add_comm (s.main_v2_10 _), ← add_assoc]
  pointwise [b87, b86, b85, b84, b83, b82, b81, b80, b52, b51]
  rfl

variable {s}

set_option maxRecDepth 16384 in
theorem content_at (h : Good s) : b105 j s (ix3 b k o) = Model.blended (inputs j s) (cube s) (grid s) b k o := by
  rw [Model.blended, ← weight_at j b k h, ← update_at, ← candidate_at]
  pointwise [b105, b104, b103, b102, b101, b100, b99, b98, b97, b96, b95, b94, b93, b92, b91, b90, b89, b88]
  rfl

set_option maxRecDepth 16384 in
/-- The memory after one reference step is the model's. -/
theorem next_at (h : Good s) : cube (step j s) b k o = Model.next (inputs j s) (cube s) (grid s) b k o := by
  rw [Model.next_eq]
  simp only [← content_at j _ _ _ h]
  unfold cube
  rw [step_main_v2_13]
  pointwise [b116, b115, b114, b113, b112, b111, b110, b109, b108, b107]

set_option maxRecDepth 16384 in
/-- The usage after one reference step is the model's. -/
theorem nextUse_at (h : Good s) : grid (step j s) b k = Model.nextUse (inputs j s) (cube s) (grid s) b k := by
  rw [Model.nextUse, ← weight_at j b k h]
  unfold grid
  rw [step_main_v2_14]
  pointwise [b125, b124, b123, b106]

set_option maxRecDepth 16384 in
/-- A step keeps the usage real and the age one real number. -/
theorem Good.step (h : Good s) : Good (step j s) where
  use b k := by rw [nextUse_at j b k h]; exact Model.nextUse_real h.use
  age := by
    obtain ⟨a, ha, e⟩ := h.age
    refine ⟨a * Ideal.ofBits .f32 0x3F7AE148#32 + 1, (ha.mul (Cell.ageDecay ▸ Cell.IsReal.coe _)).add Cell.IsReal.one, fun b k => ?_⟩
    rw [step_main_v2_15, ← e b k]
    pointwise [b122, b121, b120, b119, b118, b117]

end Cert.RefStep

end
-- ==== Proof.RefInputs.lean ====
module

public import proofs.«01_k».proof.Proof.RefStep
public import Idealize.ShloMosaic.Lib.Pointwise

@[expose] public section

/-! What the reference's steps are given, from the arguments that a state carries. -/

noncomputable section

namespace Cert.RefStep

open Idealize.ShloMosaic Cert.ReferenceIdeal Cert.ReferenceIdeal.Gen Cert.ReferenceIdeal.Step

variable (s : State Ideal) (n : Fin 32) (b : Fin 8) (l : Fin 256)

/-- The arguments a state carries, by coordinates. -/
def args : Model.Args where
  hidden b n x := s.main_v2_0 (ix3 b n x)
  queryW l x := s.main_v2_1 (ix2 l x)
  queryB l := s.main_v2_2 (ix1 l)
  valueW l x := s.main_v2_3 (ix2 l x)
  valueB l := s.main_v2_4 (ix1 l)
  resetW l x := s.main_v2_5 (ix2 l x)
  resetB l := s.main_v2_6 (ix1 l)
  gateW l x := s.main_v2_7 (ix2 l x)
  gateB l := s.main_v2_8 (ix1 l)
  updateW l x := s.main_v2_9 (ix2 l x)
  updateB l := s.main_v2_10 (ix1 l)

/-- A step leaves the arguments as they were. -/
theorem args_step (j : ℕ) : args (step j s) = args s := rfl

/-- The step the slice of the hidden states starts at. -/
def start (n : ℕ) : ℕ :=
  (min (max (Scalar.select (IntOp.cmpi .slt (BitVec.ofNat 32 n) 0#32) (IntOp.addi (BitVec.ofNat 32 n) 32#32)
    (BitVec.ofNat 32 n)).toInt 0) ((32 - 1 : ℕ) : ℤ)).toNat

theorem start_eq : ∀ n : Fin 32, start n.val = n.val := by decide

/-- Step `n` reads hidden state `n`. -/
theorem hidden_at (x : Fin 1024) : b10 n.val s (ix3 b 0 x) = (args s).hidden b n x := by
  unfold b10 Host.dynamicSlice
  refine congrArg s.main_v2_0 (funext fun a => Fin.ext ?_)
  fin_cases a
  · show (min (max (BitVec.toInt (0#32 : BitVec 32)) 0) ((8 - 8 : ℕ) : ℤ)).toNat + b.val = b.val
    exact Nat.zero_add _
  · show start n.val + 0 = n.val
    exact start_eq n
  · show (min (max (BitVec.toInt (0#32 : BitVec 32)) 0) ((1024 - 1024 : ℕ) : ℤ)).toNat + x.val = x.val
    exact Nat.zero_add _

set_option maxRecDepth 16384 in
theorem query_at : b16 n.val s (ix2 b l) = (args s).query n b l := by
  simp only [Model.Args.query, ← hidden_at]
  unfold args
  pointwise [b16, b15, b14, b13, b12, b11]

set_option maxRecDepth 16384 in
theorem value_at : b30 n.val s (ix2 b l) = (args s).value n b l := by
  simp only [Model.Args.value, ← hidden_at]
  unfold args
  pointwise [b30, b29, b28, b27, b26, b11]

/-- What step `n` is given is computed from the arguments as the model says. -/
theorem inputs_eq : inputs n.val s = (args s).inputs n := by
  unfold inputs Model.Args.inputs Model.Args.part
  simp only [query_at, value_at]
  rfl

end Cert.RefStep

end
-- ==== Proof.RefLoop.lean ====
module

public import proofs.«01_k».proof.Proof.Gen.ReferenceIdeal.StepRun
public import Idealize.ShloMosaic.Lib.Quiescent

@[expose] public section

/-! The reference's loop as a sequence of states. -/

noncomputable section

namespace Cert.RefLoop

open Idealize.ShloMosaic Idealize.SL.Sem Cert.ReferenceIdeal Cert.ReferenceIdeal.Step Cert.ReferenceIdeal.StepRun

/-- The state after the first `n` trips from `s`. -/
def after {F : FTy → Type} [FloatOps F] (s : State F) : ℕ → State F
  | 0 => s
  | n + 1 => step n (after s n)

end Cert.RefLoop

end
-- ==== Proof.Result.lean ====
module

public import proofs.«01_k».proof.Defs
public import proofs.«01_k».proof.Proof.KernelInputs
public import proofs.«01_k».proof.Proof.RefInputs
public import proofs.«01_k».proof.Proof.RefLoop

@[expose] public section

/-! The kernel's 32 steps and the reference's 32 trips end at the same memory, and with it the two programs' results. -/

noncomputable section

namespace Cert.Result

open Idealize.ShloMosaic Idealize.ShloMosaic.TcCoe Idealize.SL.Sem

section Steps

open Cert.KernelIdeal Cert.KernelIdeal.Gen

variable (m : (ℓ : Loc nD τ sig) → Buf (Elt Ideal) ℓ) (c : Dev nD) (t : Fin cfg0.N) (s : ReferenceIdeal.Step.State Ideal)

/-- The kernel's values after the first `n` steps and the reference's state after the first `n` trips agree, and the
    state is one that the step's equations hold of. -/
structure Agree (n : ℕ) : Prop where
  good : RefStep.Good (RefLoop.after s n)
  args : RefStep.args (RefLoop.after s n) = Fold.args m c
  mem : Fold.cube (Fold.after (Fold.shared m c t) (k0_pay7 (iblk m c 1 t)) n).1 = RefStep.cube (RefLoop.after s n)
  use : Fold.grid (Fold.after (Fold.shared m c t) (k0_pay7 (iblk m c 1 t)) n).2 = RefStep.grid (RefLoop.after s n)

variable {m c t s}

/-- One more step keeps the agreement. -/
theorem Agree.succ {n : ℕ} (hn : n < 32) (h : Agree m c t s n) : Agree m c t s (n + 1) := by
  have e : Fold.inputs (Fold.shared m c t) n = RefStep.inputs n (RefLoop.after s n) :=
    (Fold.inputs_eq m c t ⟨n, hn⟩).trans ((congrArg (fun A => A.inputs ⟨n, hn⟩) h.args.symm).trans
      (RefStep.inputs_eq (RefLoop.after s n) ⟨n, hn⟩).symm)
  refine ⟨h.good.step n, (RefStep.args_step _ n).trans h.args, ?_, ?_⟩
  · funext b k o
    refine (Fold.next_at _ n _ _ b k o).trans (Eq.trans ?_ (RefStep.next_at n b k o h.good).symm)
    rw [e, h.mem, h.use]
  · funext b k
    refine (Fold.nextUse_at _ n _ _ b k).trans (Eq.trans ?_ (RefStep.nextUse_at n b k h.good).symm)
    rw [e, h.mem, h.use]

theorem Agree.last (h : Agree m c t s 0) : ∀ n ≤ 32, Agree m c t s n
  | 0, _ => h
  | n + 1, hn => (h.last n (by omega)).succ (by omega)

variable (m c t)

/-- What the kernel leaves in its result: the memory after 32 steps. -/
theorem arr_eq : (dats m 0 c).arrAt 12 cfg0.N =
    (Fold.after (Fold.shared m c t0_0) (k0_pay7 (iblk m c 1 t0_0)) 32).1 := by
  refine (dats m 0 c).arrAt_eq_of_after_last 12 t0_0 (by decide +kernel) _ fun j => ?_
  blk_simp
  rw [after0_12, Fold.out_eq]

end Steps

open Cert.ReferenceIdeal Cert.ReferenceIdeal.Step Cert.ReferenceIdeal.StepRun

set_option maxRecDepth 16384 in
/-- The usage before the first trip. -/
theorem use_zero (b : Fin 8) (k : Fin 64) : (K_main_v0 (F := Ideal)) (ix2 b k) = 0 := by
  pointwise [K_main_v0, K_main_cst]

set_option maxRecDepth 16384 in
/-- The age before the first trip. -/
theorem age_zero (b : Fin 8) (k : Fin 64) : (K_main_v1 (F := Ideal)) (ix2 b k) = 0 := by
  pointwise [K_main_v1, K_main_cst_0]

set_option maxRecDepth 16384 in
/-- The kernel's usage before the first step. -/
theorem start_zero (b : Fin 8) (k : Fin 64) : (KernelIdeal.Gen.k0_pay11 (F := Ideal)) (ix2 b k) = 0 := by
  pointwise [KernelIdeal.Gen.k0_pay11]

theorem agree_zero {m : (ℓ : Loc KernelIdeal.nD KernelIdeal.τ KernelIdeal.sig) → Buf (Elt Ideal) ℓ}
    {m' : (ℓ : Loc nD τ sig) → Buf (Elt Ideal) ℓ} (c : Dev KernelIdeal.nD) (t : Fin KernelIdeal.cfg0.N)
    (hargs : RefStep.args (initState m' c) = Fold.args m c)
    (hmem : m' ((c.tc : Thread nD τ).loc main_arg1) = m ((c.tc : Thread KernelIdeal.nD KernelIdeal.τ).loc KernelIdeal.main_arg1)) :
    Agree m c t (initState m' c) 0 := by
  have e : ∀ b k o, RefStep.cube (initState m' c) b k o =
      (m ((c : Thread KernelIdeal.nD KernelIdeal.τ).loc KernelIdeal.main_arg1) : S8x64x256.Idx → EReal) (ix3 b k o) :=
    fun b k o => congrFun hmem (ix3 b k o)
  refine ⟨⟨fun b k => ?_, 0, Cell.IsReal.zero, fun b k => age_zero b k⟩, hargs, ?_, ?_⟩
  · exact ⟨0, use_zero b k⟩
  · funext b k o
    exact (Fold.start_at m c t b o k).trans (e b k o).symm
  · funext b k
    exact (start_zero b k).trans (use_zero b k).symm

set_option maxRecDepth 16384 in
/-- The reference's result at row `r` is the memory at that row's batch and slot. -/
theorem flat_at (s : State Ideal) (r : Fin 512) (o : Fin 256) :
    R_main_v3 s (ix2 r o) = RefStep.cube s ⟨r.val / 64, by omega⟩ ⟨r.val % 64, by omega⟩ o := by
  unfold RefStep.cube
  pointwise [R_main_v3]

/-- Flat memories that agree by batch, slot and feature are equal to the reference's result. -/
theorem flat_eq (X : S512x256.Idx → EReal) (s : State Ideal) (h : Fold.cube X = RefStep.cube s) : X = R_main_v3 s := by
  funext j
  obtain ⟨r, o, rfl⟩ : ∃ (r : Fin 512) (o : Fin 256), j = ix2 r o := ⟨j 0, j 1, by funext a; fin_cases a <;> rfl⟩
  rw [flat_at, ← h]
  refine congrArg (fun r => X (ix2 r o)) (Fin.ext ?_)
  show r.val = r.val / 64 * 64 + r.val % 64
  omega

/-- Both programs end with the same result. -/
theorem algebraic : Cert.algebraic_KernelIdeal_ReferenceIdeal := by
  intro m g m' g' _ hargs
  refine ⟨fun c => (KernelIdeal.Gen.dats m 0 c).arrAt 12 KernelIdeal.cfg0.N, KernelIdeal.Value.run_blocks m g, ?_⟩
  refine (θ_run _ _ _).mono (fun r h c => ⟨(h c).1.trans ?_, (h c).2⟩)
    (run_iter (F := Ideal) m' g' (fun c => RefLoop.after (initState m' c)) (fun _ => rfl) (fun _ _ => rfl))
  obtain ⟨h0, h1, h2, h3, h4, h5, h6, h7, h8, h9, h10, h11⟩ := hargs c
  have ha : RefStep.args (initState m' c) = Fold.args m c := by
    unfold RefStep.args initState init Fold.args
    simp only [h0, h2, h3, h4, h5, h6, h7, h8, h9, h10, h11]
  exact ((arr_eq m c).trans (flat_eq _ _ ((agree_zero c KernelIdeal.Gen.t0_0 ha h1).last 32 le_rfl).mem)).symm

end Cert.Result

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Result
public import Idealize.ShloMosaic.Adequacy
public import Idealize.ShloMosaic.Init
public import Idealize.ShloMosaic.Lib.Quiescent

@[expose] public section

noncomputable section

namespace Cert.Proof

open Idealize.ShloMosaic Idealize.SL.Sem

/-- The reference run from any memory: the loop's generated run with the argument arrays kept; no semaphore is
    declared, so all read zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.StepRun.run_iter (F := Ideal) m ρ
      (fun c => Cert.RefLoop.after (Cert.ReferenceIdeal.StepRun.initState m c)) (fun _ => rfl) (fun _ _ => rfl))

/-- The named constant rounds to the pattern it stands for. -/
theorem preserves : Cert.preserves_Kernel_KernelIdeal :=
  IdealRules.named_const.statement Cert.KernelIdeal.κ "least_square" .f32 0x179ABE15#32 _ rfl

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ, frame_ri, preserves, Cert.Result.algebraic⟩

end Cert.Proof

end
